-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_keep_prob" .f32 0x3F8E38E4#32 ((8388608 / 7549747 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2684354 : Shape := ⟨1, ![2684354]⟩
abbrev S2684354x2 : Shape := ⟨2, ![2684354, 2]⟩
abbrev S_ : Shape := ⟨0, ![]⟩
abbrev S2686976 : Shape := ⟨1, ![2686976]⟩
abbrev S328x8192 : Shape := ⟨2, ![328, 8192]⟩
abbrev S8x8192 : Shape := ⟨2, ![8, 8192]⟩

abbrev nBuf : Space → Nat
  | .hbm => 9
  | .vmem => 4
  | .smem => 0
  | _ => 0

abbrev bufTy : (tb : Table) → Fin (tcTables nBuf tb) → BufTy
  | .hbm, ⟨0, _⟩ => ⟨S2684354, .f32⟩
  | .hbm, ⟨1, _⟩ => ⟨S2684354x2, .i32⟩
  | .hbm, ⟨2, _⟩ => ⟨S_, .i32⟩
  | .hbm, ⟨3, _⟩ => ⟨S_, .f32⟩
  | .hbm, ⟨4, _⟩ => ⟨S2686976, .f32⟩
  | .hbm, ⟨5, _⟩ => ⟨S328x8192, .f32⟩
  | .hbm, ⟨6, _⟩ => ⟨S328x8192, .f32⟩
  | .hbm, ⟨7, _⟩ => ⟨S2686976, .f32⟩
  | .hbm, ⟨8, _⟩ => ⟨S2684354, .f32⟩
  | .local _ .vmem, ⟨0, _⟩ => ⟨S8x8192, .f32⟩
  | .local _ .vmem, ⟨1, _⟩ => ⟨S8x8192, .f32⟩
  | .local _ .vmem, ⟨2, _⟩ => ⟨S8x8192, .f32⟩
  | .local _ .vmem, ⟨3, _⟩ => ⟨S8x8192, .f32⟩
  | _, _ => ⟨S2684354, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_keep_prob" => some ((8388608 / 7549747 : ℝ) : EReal)
  | _ => none
-- ==== ReferenceIdeal.lean ====
abbrev S2684354 : Shape := ⟨1, ![2684354]⟩
abbrev S2684354x2 : Shape := ⟨2, ![2684354, 2]⟩
abbrev S_ : Shape := ⟨0, ![]⟩
abbrev S1 : Shape := ⟨1, ![1]⟩
abbrev S2 : Shape := ⟨1, ![2]⟩

abbrev nBuf : Space → Nat
  | .hbm => 280
  | .vmem => 0
  | .smem => 0
  | _ => 0

abbrev hbmTy0_0 (i : Nat) : BufTy := match i % 128 with
  | 0 => ⟨S2684354, .f32⟩
  | 1 => ⟨S2684354x2, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S2684354, .i64⟩
  | 23 => ⟨S_, .i64⟩
  | 24 => ⟨S2684354, .i64⟩
  | 25 => ⟨S2684354, .i64⟩
  | 26 => ⟨S_, .i64⟩
  | 27 => ⟨S2684354, .i64⟩
  | 28 => ⟨S2684354, .i64⟩
  | 29 => ⟨S2684354, .i32⟩
  | 30 => ⟨S2684354, .i32⟩
  | 31 => ⟨S_, .i32⟩
  | 32 => ⟨S_, .i32⟩
  | 33 => ⟨S_, .i32⟩
  | 34 => ⟨S2684354, .i32⟩
  | 35 => ⟨S2684354, .i32⟩
  | 36 => ⟨S2684354, .i32⟩
  | 37 => ⟨S2684354, .i32⟩
  | 38 => ⟨S2684354, .i32⟩
  | 39 => ⟨S_, .i32⟩
  | 40 => ⟨S2684354, .i32⟩
  | 41 => ⟨S2684354, .i32⟩
  | 42 => ⟨S_, .i32⟩
  | 43 => ⟨S2684354, .i32⟩
  | 44 => ⟨S2684354, .i32⟩
  | 45 => ⟨S2684354, .i32⟩
  | 46 => ⟨S2684354, .i32⟩
  | 47 => ⟨S2684354, .i32⟩
  | 48 => ⟨S_, .i32⟩
  | 49 => ⟨S2684354, .i32⟩
  | 50 => ⟨S2684354, .i32⟩
  | 51 => ⟨S_, .i32⟩
  | 52 => ⟨S2684354, .i32⟩
  | 53 => ⟨S2684354, .i32⟩
  | 54 => ⟨S2684354, .i32⟩
  | 55 => ⟨S2684354, .i32⟩
  | 56 => ⟨S2684354, .i32⟩
  | 57 => ⟨S_, .i32⟩
  | 58 => ⟨S2684354, .i32⟩
  | 59 => ⟨S2684354, .i32⟩
  | 60 => ⟨S_, .i32⟩
  | 61 => ⟨S2684354, .i32⟩
  | 62 => ⟨S2684354, .i32⟩
  | 63 => ⟨S2684354, .i32⟩
  | 64 => ⟨S2684354, .i32⟩
  | 65 => ⟨S2684354, .i32⟩
  | 66 => ⟨S_, .i32⟩
  | 67 => ⟨S2684354, .i32⟩
  | 68 => ⟨S2684354, .i32⟩
  | 69 => ⟨S_, .i32⟩
  | 70 => ⟨S2684354, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S_, .i32⟩
  | 79 => ⟨S2684354, .i32⟩
  | 80 => ⟨S2684354, .i32⟩
  | 81 => ⟨S2684354, .i32⟩
  | 82 => ⟨S_, .i32⟩
  | 83 => ⟨S2684354, .i32⟩
  | 84 => ⟨S2684354, .i32⟩
  | 85 => ⟨S_, .i32⟩
  | 86 => ⟨S2684354, .i32⟩
  | 87 => ⟨S2684354, .i32⟩
  | 88 => ⟨S2684354, .i32⟩
  | 89 => ⟨S2684354, .i32⟩
  | 90 => ⟨S2684354, .i32⟩
  | 91 => ⟨S_, .i32⟩
  | 92 => ⟨S2684354, .i32⟩
  | 93 => ⟨S2684354, .i32⟩
  | 94 => ⟨S_, .i32⟩
  | 95 => ⟨S2684354, .i32⟩
  | 96 => ⟨S2684354, .i32⟩
  | 97 => ⟨S2684354, .i32⟩
  | 98 => ⟨S2684354, .i32⟩
  | 99 => ⟨S2684354, .i32⟩
  | 100 => ⟨S_, .i32⟩
  | 101 => ⟨S2684354, .i32⟩
  | 102 => ⟨S2684354, .i32⟩
  | 103 => ⟨S_, .i32⟩
  | 104 => ⟨S2684354, .i32⟩
  | 105 => ⟨S2684354, .i32⟩
  | 106 => ⟨S2684354, .i32⟩
  | 107 => ⟨S2684354, .i32⟩
  | 108 => ⟨S2684354, .i32⟩
  | 109 => ⟨S_, .i32⟩
  | 110 => ⟨S2684354, .i32⟩
  | 111 => ⟨S2684354, .i32⟩
  | 112 => ⟨S_, .i32⟩
  | 113 => ⟨S2684354, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S_, .i32⟩
  | 122 => ⟨S2684354, .i32⟩
  | 123 => ⟨S2684354, .i32⟩
  | 124 => ⟨S2684354, .i32⟩
  | 125 => ⟨S_, .i32⟩
  | 126 => ⟨S2684354, .i32⟩
  | 127 => ⟨S2684354, .i32⟩
  | _ => ⟨S2684354, .f32⟩

abbrev hbmTy0_1 (i : Nat) : BufTy := match i % 128 with
  | 0 => ⟨S_, .i32⟩
  | 1 => ⟨S2684354, .i32⟩
  | 2 => ⟨S2684354, .i32⟩
  | 3 => ⟨S2684354, .i32⟩
  | 4 => ⟨S2684354, .i32⟩
  | 5 => ⟨S2684354, .i32⟩
  | 6 => ⟨S_, .i32⟩
  | 7 => ⟨S2684354, .i32⟩
  | 8 => ⟨S2684354, .i32⟩
  | 9 => ⟨S_, .i32⟩
  | 10 => ⟨S2684354, .i32⟩
  | 11 => ⟨S2684354, .i32⟩
  | 12 => ⟨S2684354, .i32⟩
  | 13 => ⟨S2684354, .i32⟩
  | 14 => ⟨S2684354, .i32⟩
  | 15 => ⟨S_, .i32⟩
  | 16 => ⟨S2684354, .i32⟩
  | 17 => ⟨S2684354, .i32⟩
  | 18 => ⟨S_, .i32⟩
  | 19 => ⟨S2684354, .i32⟩
  | 20 => ⟨S2684354, .i32⟩
  | 21 => ⟨S2684354, .i32⟩
  | 22 => ⟨S2684354, .i32⟩
  | 23 => ⟨S2684354, .i32⟩
  | 24 => ⟨S_, .i32⟩
  | 25 => ⟨S2684354, .i32⟩
  | 26 => ⟨S2684354, .i32⟩
  | 27 => ⟨S_, .i32⟩
  | 28 => ⟨S2684354, .i32⟩
  | 29 => ⟨S2684354, .i32⟩
  | 30 => ⟨S2684354, .i32⟩
  | 31 => ⟨S2684354, .i32⟩
  | 32 => ⟨S2684354, .i32⟩
  | 33 => ⟨S2684354, .i32⟩
  | 34 => ⟨S2684354, .i32⟩
  | 35 => ⟨S2684354, .i32⟩
  | 36 => ⟨S_, .i32⟩
  | 37 => ⟨S2684354, .i32⟩
  | 38 => ⟨S2684354, .i32⟩
  | 39 => ⟨S2684354, .i32⟩
  | 40 => ⟨S_, .i32⟩
  | 41 => ⟨S2684354, .i32⟩
  | 42 => ⟨S2684354, .i32⟩
  | 43 => ⟨S_, .i32⟩
  | 44 => ⟨S2684354, .i32⟩
  | 45 => ⟨S2684354, .i32⟩
  | 46 => ⟨S2684354, .i32⟩
  | 47 => ⟨S2684354, .i32⟩
  | 48 => ⟨S2684354, .i32⟩
  | 49 => ⟨S_, .i32⟩
  | 50 => ⟨S2684354, .i32⟩
  | 51 => ⟨S2684354, .i32⟩
  | 52 => ⟨S_, .i32⟩
  | 53 => ⟨S2684354, .i32⟩
  | 54 => ⟨S2684354, .i32⟩
  | 55 => ⟨S2684354, .i32⟩
  | 56 => ⟨S2684354, .i32⟩
  | 57 => ⟨S2684354, .i32⟩
  | 58 => ⟨S_, .i32⟩
  | 59 => ⟨S2684354, .i32⟩
  | 60 => ⟨S2684354, .i32⟩
  | 61 => ⟨S_, .i32⟩
  | 62 => ⟨S2684354, .i32⟩
  | 63 => ⟨S2684354, .i32⟩
  | 64 => ⟨S2684354, .i32⟩
  | 65 => ⟨S2684354, .i32⟩
  | 66 => ⟨S2684354, .i32⟩
  | 67 => ⟨S_, .i32⟩
  | 68 => ⟨S2684354, .i32⟩
  | 69 => ⟨S2684354, .i32⟩
  | 70 => ⟨S_, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S2684354, .i32⟩
  | 79 => ⟨S_, .i32⟩
  | 80 => ⟨S2684354, .i32⟩
  | 81 => ⟨S2684354, .i32⟩
  | 82 => ⟨S2684354, .i32⟩
  | 83 => ⟨S_, .i32⟩
  | 84 => ⟨S2684354, .i32⟩
  | 85 => ⟨S2684354, .i32⟩
  | 86 => ⟨S_, .i32⟩
  | 87 => ⟨S2684354, .i32⟩
  | 88 => ⟨S2684354, .i32⟩
  | 89 => ⟨S2684354, .i32⟩
  | 90 => ⟨S2684354, .i32⟩
  | 91 => ⟨S2684354, .i32⟩
  | 92 => ⟨S_, .i32⟩
  | 93 => ⟨S2684354, .i32⟩
  | 94 => ⟨S2684354, .i32⟩
  | 95 => ⟨S_, .i32⟩
  | 96 => ⟨S2684354, .i32⟩
  | 97 => ⟨S2684354, .i32⟩
  | 98 => ⟨S2684354, .i32⟩
  | 99 => ⟨S2684354, .i32⟩
  | 100 => ⟨S2684354, .i32⟩
  | 101 => ⟨S_, .i32⟩
  | 102 => ⟨S2684354, .i32⟩
  | 103 => ⟨S2684354, .i32⟩
  | 104 => ⟨S_, .i32⟩
  | 105 => ⟨S2684354, .i32⟩
  | 106 => ⟨S2684354, .i32⟩
  | 107 => ⟨S2684354, .i32⟩
  | 108 => ⟨S2684354, .i32⟩
  | 109 => ⟨S2684354, .i32⟩
  | 110 => ⟨S_, .i32⟩
  | 111 => ⟨S2684354, .i32⟩
  | 112 => ⟨S2684354, .i32⟩
  | 113 => ⟨S_, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S2684354, .i32⟩
  | 122 => ⟨S_, .i32⟩
  | 123 => ⟨S2684354, .i32⟩
  | 124 => ⟨S2684354, .i32⟩
  | 125 => ⟨S2684354, .i32⟩
  | 126 => ⟨S_, .i32⟩
  | 127 => ⟨S2684354, .i32⟩
  | _ => ⟨S2684354, .f32⟩

abbrev hbmTy0_2 (i : Nat) : BufTy := match i % 128 with
  | 0 => ⟨S2684354, .i32⟩
  | 1 => ⟨S_, .i32⟩
  | 2 => ⟨S2684354, .i32⟩
  | 3 => ⟨S2684354, .i32⟩
  | 4 => ⟨S2684354, .f32⟩
  | 5 => ⟨S_, .f32⟩
  | 6 => ⟨S2684354, .f32⟩
  | 7 => ⟨S2684354, .f32⟩
  | 8 => ⟨S1, .f32⟩
  | 9 => ⟨S2684354, .f32⟩
  | 10 => ⟨S2684354, .f32⟩
  | 11 => ⟨S2684354, .f32⟩
  | 12 => ⟨S2684354, .f32⟩
  | 13 => ⟨S2684354, .f32⟩
  | 14 => ⟨S2684354, .f32⟩
  | 15 => ⟨S_, .f32⟩
  | 16 => ⟨S2684354, .f32⟩
  | 17 => ⟨S2684354, .i1⟩
  | 18 => ⟨S_, .f32⟩
  | 19 => ⟨S2684354, .f32⟩
  | 20 => ⟨S2684354, .f32⟩
  | 21 => ⟨S_, .f32⟩
  | 22 => ⟨S2684354, .f32⟩
  | 23 => ⟨S2684354, .f32⟩
  | _ => ⟨S2684354, .f32⟩

abbrev hbmTy (i : Nat) : BufTy := match i / 128 with
  | 0 => hbmTy0_0 i
  | 1 => hbmTy0_1 i
  | 2 => hbmTy0_2 i
  | _ => ⟨S2684354, .f32⟩

abbrev bufTy : (tb : Table) → Fin (tcTables nBuf tb) → BufTy
  | .hbm, ⟨i, _⟩ => hbmTy i
  | _, _ => ⟨S2684354, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v15_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v15_1 : Ref sig .tc := ⟨.hbm, 252, rfl⟩
abbrev main_call0_v16 : Ref sig .tc := ⟨.hbm, 253, rfl⟩
abbrev main_call0_c_1 : Ref sig .tc := ⟨.hbm, 254, rfl⟩
abbrev main_call0_v17 : Ref sig .tc := ⟨.hbm, 255, rfl⟩
abbrev main_call0_v18 : Ref sig .tc := ⟨.hbm, 256, rfl⟩
abbrev main_call0_c_2 : Ref sig .tc := ⟨.hbm, 257, rfl⟩
abbrev main_call0_v19 : Ref sig .tc := ⟨.hbm, 258, rfl⟩
abbrev main_call0_v20 : Ref sig .tc := ⟨.hbm, 259, rfl⟩
abbrev main_call0_v21 : Ref sig .tc := ⟨.hbm, 260, rfl⟩
abbrev main_call0_cst : Ref sig .tc := ⟨.hbm, 261, rfl⟩
abbrev main_call0_v22 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_v7 : Ref sig .tc := ⟨.hbm, 270, rfl⟩
abbrev main_cst_3 : Ref sig .tc := ⟨.hbm, 271, rfl⟩
abbrev main_v8 : Ref sig .tc := ⟨.hbm, 272, rfl⟩
abbrev main_v9 : Ref sig .tc := ⟨.hbm, 273, rfl⟩
abbrev main_cst_4 : Ref sig .tc := ⟨.hbm, 274, rfl⟩
abbrev main_v10 : Ref sig .tc := ⟨.hbm, 275, rfl⟩
abbrev main_v11 : Ref sig .tc := ⟨.hbm, 276, rfl⟩
abbrev main_cst_5 : Ref sig .tc := ⟨.hbm, 277, rfl⟩
abbrev main_v12 : Ref sig .tc := ⟨.hbm, 278, rfl⟩
abbrev main_v13 : Ref sig .tc := ⟨.hbm, 279, rfl⟩

abbrev nD : Nat := 1
abbrev τ : Topo := Topo.v7x

variable {F : FTy → Type} [FloatOps F]
-- ==== Proof.Line.lean ====
/-
  A straight line of host operations in which every buffer is written once and read only afterwards. Of the contents
  `W` that such a line leaves, each operation gives an equation between entries of `W` alone: what it writes is its
  function of what `W` holds at its operands, because neither is touched again. The line is then read by
  equations, in any order, with no account of the places in between.

  "Written once, then read" is stated by the buffers' numbers: along the line the written numbers increase
  (`Ordered`), and what an operation computes depends on lower numbers only.
-/
module

public import Idealize.ShloMosaic.Lib.StableHlo.Run

@[expose] public section

noncomputable section

namespace Cert.Proof

open Idealize.ShloMosaic Idealize.ShloMosaic.StableHlo Idealize.SL.Sem

variable {τ : Topo} {sig : RefSig} {Val : EltTy → Type}

/-- A buffer's number in its memory space. -/
abbrev num (r : Ref sig .tc) : ℕ := r.idx.val

/-- The operation writes the buffer `y` alone, and what it leaves there depends on buffers of lower number only. -/
def Computes (op : HloOp τ sig Val) (y : Ref sig .tc) : Prop :=
  op.writes = {Proc.devRef .tc y} ∧
    ∀ V V' : Valuation τ sig Val, (∀ r : Ref sig .tc, num r < num y → V (Proc.devRef .tc r) = V' (Proc.devRef .tc r)) →
      op.result V (Proc.devRef .tc y) = op.result V' (Proc.devRef .tc y)

/-- The line writes buffers of increasing number, from `lo` on, each computed from lower ones. -/
def Ordered : ℕ → List (HloOp τ sig Val) → Prop
  | _, [] => True
  | lo, op :: L => ∃ y : Ref sig .tc, Computes op y ∧ lo ≤ num y ∧ Ordered (num y + 1) L

/-! ## A line of the builders is ordered -/

section Builders

variable {x a b c y : Ref sig .tc} {lo : ℕ} {L : List (HloOp τ sig Val)}

theorem Ordered.nil : Ordered lo ([] : List (HloOp τ sig Val)) := trivial

theorem Ordered.nullary (v : y.ty.Contents Val) (hy) (hlo : lo ≤ num y) (h : Ordered (num y + 1) L) :
    Ordered lo (StableHlo.nullary (τ := τ) y v hy :: L) :=
  ⟨y, ⟨rfl, fun V V' _ => by rw [nullary_result, nullary_result]⟩, hlo, h⟩

theorem Ordered.unary (f : x.ty.Contents Val → y.ty.Contents Val) (hx hy) (hxy : num x < num y) (hlo : lo ≤ num y)
    (h : Ordered (num y + 1) L) : Ordered lo (StableHlo.unary (τ := τ) x y f hx hy :: L) :=
  ⟨y, ⟨rfl, fun V V' e => by rw [unary_result, unary_result, e x hxy]⟩, hlo, h⟩

theorem Ordered.binary (f : a.ty.Contents Val → b.ty.Contents Val → y.ty.Contents Val) (ha hb hy) (hay : num a < num y)
    (hby : num b < num y) (hlo : lo ≤ num y) (h : Ordered (num y + 1) L) :
    Ordered lo (StableHlo.binary (τ := τ) a b y f ha hb hy :: L) :=
  ⟨y, ⟨rfl, fun V V' e => by rw [binary_result, binary_result, e a hay, e b hby]⟩, hlo, h⟩

theorem Ordered.ternary (f : c.ty.Contents Val → a.ty.Contents Val → b.ty.Contents Val → y.ty.Contents Val) (hc ha hb hy)
    (hcy : num c < num y) (hay : num a < num y) (hby : num b < num y) (hlo : lo ≤ num y) (h : Ordered (num y + 1) L) :
    Ordered lo (StableHlo.ternary (τ := τ) c a b y f hc ha hb hy :: L) :=
  ⟨y, ⟨rfl, fun V V' e => by rw [ternary_result, ternary_result, e c hcy, e a hay, e b hby]⟩, hlo, h⟩

theorem Ordered.reshape (he hn hx hy) (hxy : num x < num y) (hlo : lo ≤ num y) (h : Ordered (num y + 1) L) :
    Ordered lo (StableHlo.reshape (τ := τ) (Val := Val) x y he hn hx hy :: L) :=
  ⟨y, ⟨rfl, fun V V' e => by rw [reshape_result, reshape_result, e x hxy]⟩, hlo, h⟩

end Builders

/-! ## What an ordered line leaves -/

/-- An ordered line leaves the buffers below its first number alone. -/
theorem Ordered.below {L : List (HloOp τ sig Val)} {lo : ℕ} (h : Ordered lo L) (V : Valuation τ sig Val)
    {r : Ref sig .tc} (hr : num r < lo) : after L V (Proc.devRef .tc r) = V (Proc.devRef .tc r) := by
  induction L generalizing lo V with
  | nil => rfl
  | cons op L ih =>
    obtain ⟨y, ⟨hw, -⟩, hlo, hL⟩ := h
    rw [after_cons, ih hL _ (by omega), op.result_of_not_mem V]
    rw [hw, Finset.mem_singleton]
    exact devRef_ne_of_ne fun e => by subst e; omega

/-- `W` is what an ordered line leaves, and `L` is an end of that line. -/
def Left (L : List (HloOp τ sig Val)) (W : Valuation τ sig Val) : Prop :=
  ∃ lo V, Ordered lo L ∧ after L V = W

theorem Left.start {L : List (HloOp τ sig Val)} {lo : ℕ} (h : Ordered lo L) (V : Valuation τ sig Val) : Left L (after L V) :=
  ⟨lo, V, h, rfl⟩

/-- Past the line's first operation. -/
theorem Left.tail {op : HloOp τ sig Val} {L : List (HloOp τ sig Val)} {W : Valuation τ sig Val} (h : Left (op :: L) W) :
    Left L W := by
  obtain ⟨lo, V, ⟨y, -, -, hL⟩, e⟩ := h
  exact ⟨_, _, hL, e⟩

/-- Past its first `n` operations. -/
theorem Left.drop {L : List (HloOp τ sig Val)} {W : Valuation τ sig Val} (h : Left L W) (n : ℕ) : Left (L.drop n) W := by
  induction n generalizing L with
  | zero => exact h
  | succ n ih =>
    cases L with
    | nil => exact h
    | cons op L => exact ih h.tail

/-- The first operation's equation: what it writes is its result from what the line leaves. -/
theorem Left.head {op : HloOp τ sig Val} {L : List (HloOp τ sig Val)} {W : Valuation τ sig Val} (h : Left (op :: L) W)
    {y : Ref sig .tc} (hy : op.writes = {Proc.devRef .tc y}) :
    W (Proc.devRef .tc y) = op.result W (Proc.devRef .tc y) := by
  obtain ⟨lo, V, ⟨y', ⟨hw, hloc⟩, -, hL⟩, rfl⟩ := h
  have e : y' = y := Proc.devRef_injective _ (Finset.singleton_inj.mp (hw.symm.trans hy))
  subst e
  rw [after_cons, hL.below _ (Nat.lt_succ_self _)]
  refine hloc _ _ fun r hr => ?_
  rw [hL.below _ (Nat.lt_succ_of_lt hr), op.result_of_not_mem V]
  rw [hw, Finset.mem_singleton]
  exact devRef_ne_of_ne fun e => by subst e; omega

/-! ## The equations, at typed references -/

/-- The contents at a typed reference. -/
abbrev entry {T : BufTy} (W : Valuation τ sig Val) (x : TRef sig T) : T.Contents Val := x.ofBuf (W (Proc.devRef .tc x.ref))

section Typed

variable {Tx Tc Ta Tb Ty : BufTy} {L : List (HloOp τ sig Val)} {W : Valuation τ sig Val}

theorem Left.nullary {y : TRef sig Ty} {v : Ty.Contents Val} (h : Left (TRef.nullary y v :: L) W) : entry W y = v := by
  rw [entry, h.head rfl, nullary_result, TRef.ofBuf_toBuf]

theorem Left.unary {x : TRef sig Tx} {y : TRef sig Ty} {f : Tx.Contents Val → Ty.Contents Val}
    (h : Left (TRef.unary x y f :: L) W) : entry W y = f (entry W x) := by
  rw [entry, h.head rfl, unary_result, TRef.ofBuf_toBuf]

theorem Left.binary {a : TRef sig Ta} {b : TRef sig Tb} {y : TRef sig Ty}
    {f : Ta.Contents Val → Tb.Contents Val → Ty.Contents Val} (h : Left (TRef.binary a b y f :: L) W) :
    entry W y = f (entry W a) (entry W b) := by
  rw [entry, h.head rfl, binary_result, TRef.ofBuf_toBuf]

theorem Left.ternary {c : TRef sig Tc} {a : TRef sig Ta} {b : TRef sig Tb} {y : TRef sig Ty}
    {f : Tc.Contents Val → Ta.Contents Val → Tb.Contents Val → Ty.Contents Val}
    (h : Left (TRef.ternary c a b y f :: L) W) : entry W y = f (entry W c) (entry W a) (entry W b) := by
  rw [entry, h.head rfl, ternary_result, TRef.ofBuf_toBuf]

end Typed

end Cert.Proof

end
-- ==== Proof.ReferenceLine.lean ====
/-
  The reference's operations, as one line, and that the line is ordered: every buffer written once, from lower ones.
-/
module

public import proofs.«01_k».proof.Proof.Gen.ReferenceIdeal
public import proofs.«01_k».proof.Proof.Line
public import Idealize.ShloMosaic.PureOps.Ideal
public import Idealize.ShloMosaic.Lib.Claim

@[expose] public section

set_option maxRecDepth 16384

noncomputable section

namespace Cert.Proof

open Idealize.ShloMosaic Idealize.SL.Sem

/-- The operations of the reference, in order, its functions' bodies at their calls; with the proof that they are its
    program. -/
def referenceLine : { ops : List (HloOp Cert.ReferenceIdeal.τ Cert.ReferenceIdeal.sig (Elt Ideal)) //
    ∀ d, StableHlo.IsSeq (Cert.ReferenceIdeal.main (F := Ideal) d) ops } := by
  apply Subtype.mk
  intro d
  simp only [Cert.ReferenceIdeal.main, Cert.ReferenceIdeal.fn_uniform.body, Cert.ReferenceIdeal.fn_threefry2x32.body,
    Cert.ReferenceIdeal.fn_threefry2x32.body_part0, Cert.ReferenceIdeal.fn_threefry2x32.body_part1,
    Cert.ReferenceIdeal.fn_threefry2x32.body_part2, Cert.ReferenceIdeal.fn_threefry2x32.body_part3,
    Cert.ReferenceIdeal.fn_where.body, bind_assoc, pure_bind]
  hlo_seq

/-- The operations. -/
abbrev ops : List (HloOp Cert.ReferenceIdeal.τ Cert.ReferenceIdeal.sig (Elt Ideal)) := referenceLine.1

set_option maxHeartbeats 2000000 in
/-- Past the two arguments each operation writes a buffer of its own, from earlier ones. -/
theorem ops_ordered : Ordered 2 ops := by
  unfold ops referenceLine
  repeat first
    | exact Ordered.nil
    | with_reducible refine Ordered.nullary _ _ ?_ ?_; decide
    | with_reducible refine Ordered.unary _ _ _ ?_ ?_ ?_; decide; decide
    | with_reducible refine Ordered.binary _ _ _ _ ?_ ?_ ?_ ?_; decide; decide; decide
    | with_reducible refine Ordered.ternary _ _ _ _ _ ?_ ?_ ?_ ?_ ?_; decide; decide; decide; decide
    | with_reducible refine Ordered.reshape _ _ _ _ ?_ ?_ ?_; decide; decide

/-- The reference runs to what the line leaves of its launch contents, with every counter at zero again. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ (d : Dev Cert.ReferenceIdeal.nD) (b : Ref Cert.ReferenceIdeal.sig .tc),
        r.2.mem ((d.tc : Thread Cert.ReferenceIdeal.nD Cert.ReferenceIdeal.τ).loc b)
          = StableHlo.after ops (StableHlo.launchContents m d) (Proc.devRef .tc b) :=
  StableHlo.run_hlo _ _ referenceLine.2 (by decide) (by decide) (by unfold referenceLine; simp)
    (by unfold referenceLine; intro _ h; (repeat (cases h with | head => rfl | tail _ h => ?_)); exact nomatch h) _ _

end Cert.Proof

end
-- ==== Proof.Cipher.lean ====
/-
  Threefry-2x32 on words: the generator both programs draw their bits from, stated once. A state is a pair of words; a
  round adds, rotates and combines; every four rounds key words are added.
-/
module

public import Idealize.ShloMosaic.Lib.Claim

@[expose] public section

noncomputable section

namespace Cert.Proof

open Idealize.ShloMosaic

/-- The two words of the generator's state. -/
abbrev State : Type := BitVec 32 × BitVec 32

/-- A word rotated left by `l`, its top `r` bits brought round (`l + r = 32`). -/
def rot (l r : BitVec 32) (x : BitVec 32) : BitVec 32 := x <<< l ||| x >>> r

/-- One round: the sum, and the second word rotated and combined with it. -/
def mix (l r : BitVec 32) (s : State) : State := (s.1 + s.2, (s.1 + s.2) ^^^ rot l r s.2)

/-- Key words added to the state. -/
def inject (j k : BitVec 32) (s : State) : State := (s.1 + j, s.2 + k)

/-- The rounds of the first, third and fifth group. -/
def mixA (s : State) : State := mix 6#32 26#32 (mix 26#32 6#32 (mix 15#32 17#32 (mix 13#32 19#32 s)))

/-- The rounds of the second and fourth group. -/
def mixB (s : State) : State := mix 24#32 8#32 (mix 16#32 16#32 (mix 29#32 3#32 (mix 17#32 15#32 s)))

/-- The key's third word, for the key (0, 42). -/
abbrev third : BitVec 32 := 466689008#32

/-- The generator under the key (0, 42), at the counter (0, p). -/
def cipher (p : BitVec 32) : State :=
  inject third (0#32 + 5#32) (mixA (inject 42#32 (third + 4#32) (mixB (inject 0#32 (42#32 + 3#32) (mixA
    (inject third (0#32 + 2#32) (mixB (inject 42#32 (third + 1#32) (mixA (0#32, p + 42#32))))))))))

/-- The bits drawn at position `p`. -/
def bits (p : BitVec 32) : BitVec 32 := (cipher p).1 ^^^ (cipher p).2

/-- The upper 23 of them, the number the draw is decided by. -/
def drawn (p : BitVec 32) : BitVec 32 := bits p >>> 9#32

end Cert.Proof

end
-- ==== Proof.ReferenceRounds.lean ====
/-
  The steps of the generator as the reference writes them, read at one position: from the words two arrays hold there,
  the words the next two hold. Each is one lemma over any line that begins with the step's operations, and hands back
  the rest of the line.
-/
module

public import proofs.«01_k».proof.Proof.Cipher
public import proofs.«01_k».proof.Proof.Line
public import Idealize.ShloMosaic.Lib.Claim
public import Idealize.ShloMosaic.PureOps.Ideal

@[expose] public section

noncomputable section

namespace Cert.Proof

open Idealize.ShloMosaic Idealize.ShloMosaic.StableHlo Idealize.SL.Sem

theorem host_shl (x y : BitVec 32) (h : y.toNat < 32) : IntOp.shli .host x y = x <<< y := if_pos h
theorem host_shr (x y : BitVec 32) (h : y.toNat < 32) : IntOp.shrui .host x y = x >>> y := if_pos h

variable {τ : Topo} {sig : RefSig} {F : FTy → Type} {S S₀ : Shape} {L : List (HloOp τ sig (Elt F))}
  {W : Valuation τ sig (Elt F)} {i : S.Idx} {s : State} {d : Fin S₀.rank → Fin S.rank}

/-- One round. -/
theorem round {x₀ x₁ y₀ cₗ bₗ yₗ cᵣ bᵣ yᵣ o y₁} {l r : BitVec 32} {hₗ : S₀.BroadcastsInDim S d} {hᵣ : S₀.BroadcastsInDim S d}
    (hl : l.toNat < 32) (hr : r.toNat < 32)
    (h : Left (TRef.binary (Ta := ⟨S, .i32⟩) (Tb := ⟨S, .i32⟩) (Ty := ⟨S, .i32⟩) x₀ x₁ y₀ addi
      :: TRef.nullary (Ty := ⟨S₀, .i32⟩) cₗ (constantI S₀ 32 l)
      :: TRef.unary (Tx := ⟨S₀, .i32⟩) (Ty := ⟨S, .i32⟩) cₗ bₗ (broadcastInDim S d hₗ)
      :: TRef.binary (Ta := ⟨S, .i32⟩) (Tb := ⟨S, .i32⟩) (Ty := ⟨S, .i32⟩) x₁ bₗ yₗ Host.shli
      :: TRef.nullary (Ty := ⟨S₀, .i32⟩) cᵣ (constantI S₀ 32 r)
      :: TRef.unary (Tx := ⟨S₀, .i32⟩) (Ty := ⟨S, .i32⟩) cᵣ bᵣ (broadcastInDim S d hᵣ)
      :: TRef.binary (Ta := ⟨S, .i32⟩) (Tb := ⟨S, .i32⟩) (Ty := ⟨S, .i32⟩) x₁ bᵣ yᵣ Host.shrui
      :: TRef.binary (Ta := ⟨S, .i32⟩) (Tb := ⟨S, .i32⟩) (Ty := ⟨S, .i32⟩) yₗ yᵣ o ori
      :: TRef.binary (Ta := ⟨S, .i32⟩) (Tb := ⟨S, .i32⟩) (Ty := ⟨S, .i32⟩) y₀ o y₁ xori :: L) W)
    (e : ((entry W x₀ i, entry W x₁ i) : State) = s) :
    Left L W ∧ ((entry W y₀ i, entry W y₁ i) : State) = mix l r s := by
  have h1 := h.tail; have h2 := h1.tail; have h3 := h2.tail; have h4 := h3.tail; have h5 := h4.tail
  have h6 := h5.tail; have h7 := h6.tail; have h8 := h7.tail
  refine ⟨h8.tail, ?_⟩
  subst e
  rw [h8.binary, h7.binary, h6.binary, h5.unary, h4.nullary, h3.binary, h2.unary, h1.nullary, h.binary]
  simp only [mix, rot, xori, ori, addi, Host.shli, Host.shrui, broadcastInDim, constantI, IntOp.xori, IntOp.ori, IntOp.addi,
    host_shl _ _ hl, host_shr _ _ hr]

/-- Key words added to the state; the second of them is a word of the key plus the group's number. -/
theorem keyed {x₀ x₁ j bⱼ y₀ k bₖ t c b y₁} {w v n : BitVec 32} {hⱼ hₖ hₙ : S₀.BroadcastsInDim S d}
    (h : Left (TRef.unary (Tx := ⟨S₀, .i32⟩) (Ty := ⟨S, .i32⟩) j bⱼ (broadcastInDim S d hⱼ)
      :: TRef.binary (Ta := ⟨S, .i32⟩) (Tb := ⟨S, .i32⟩) (Ty := ⟨S, .i32⟩) x₀ bⱼ y₀ addi
      :: TRef.unary (Tx := ⟨S₀, .i32⟩) (Ty := ⟨S, .i32⟩) k bₖ (broadcastInDim S d hₖ)
      :: TRef.binary (Ta := ⟨S, .i32⟩) (Tb := ⟨S, .i32⟩) (Ty := ⟨S, .i32⟩) x₁ bₖ t addi
      :: TRef.nullary (Ty := ⟨S₀, .i32⟩) c (constantI S₀ 32 n)
      :: TRef.unary (Tx := ⟨S₀, .i32⟩) (Ty := ⟨S, .i32⟩) c b (broadcastInDim S d hₙ)
      :: TRef.binary (Ta := ⟨S, .i32⟩) (Tb := ⟨S, .i32⟩) (Ty := ⟨S, .i32⟩) t b y₁ addi :: L) W)
    (hw : ∀ z, entry W j z = w) (hv : ∀ z, entry W k z = v)
    (e : ((entry W x₀ i, entry W x₁ i) : State) = s) :
    Left L W ∧ ((entry W y₀ i, entry W y₁ i) : State) = inject w (v + n) s := by
  have h1 := h.tail; have h2 := h1.tail; have h3 := h2.tail; have h4 := h3.tail; have h5 := h4.tail
  have h6 := h5.tail
  refine ⟨h6.tail, ?_⟩
  subst e
  rw [h6.binary, h5.unary, h4.nullary, h3.binary, h2.unary, h1.binary, h.unary]
  simp only [inject, addi, broadcastInDim, constantI, IntOp.addi, hw, hv, BitVec.add_assoc]

end Cert.Proof

end
-- ==== Proof.ReferenceBits.lean ====
/-
  The words the reference draws: at every position of its bit arrays, the generator's two words there.
-/
module

public import proofs.«01_k».proof.Proof.ReferenceLine
public import proofs.«01_k».proof.Proof.ReferenceRounds
public import Idealize.ShloMosaic.Lib.StableHlo.RunRead

@[expose] public section

set_option maxRecDepth 16384

noncomputable section

namespace Cert.Proof

open Idealize.ShloMosaic Idealize.ShloMosaic.StableHlo Idealize.SL.Sem Cert.ReferenceIdeal

/-- The buffers' contents. -/
abbrev Contents : Type := Valuation Cert.ReferenceIdeal.τ Cert.ReferenceIdeal.sig (Elt Ideal)

variable (V : Contents)

/-- The two pieces the key is put together from. -/
theorem piece_first : upto ops V 9 (Proc.devRef .tc main_v2) = fun _ => 0#32 := by
  after_reads_simp
  rfl

theorem piece_second : upto ops V 9 (Proc.devRef .tc main_v5) = fun _ => 42#32 := by
  after_reads_simp
  exact funext fun _ => (by decide : 42#32 &&& 4294967295#32 = 42#32)

/-- The key's first word is 0. -/
theorem key_first (z : S_.Idx) : after ops V (Proc.devRef .tc main_call0_v5) z = 0#32 := by
  after_reads_simp
  rw [piece_first, piece_second]
  obtain rfl : z = fun k => k.elim0 := funext fun k => k.elim0
  simp only [TRef.ofBuf_toBuf]
  rfl

/-- The key's second word is 42. -/
theorem key_second (z : S_.Idx) : after ops V (Proc.devRef .tc main_call0_v7) z = 42#32 := by
  after_reads_simp
  rw [piece_first, piece_second]
  obtain rfl : z = fun k => k.elim0 := funext fun k => k.elim0
  simp only [TRef.ofBuf_toBuf]
  rfl

/-- The counter's low word is the position. -/
theorem counter_low (i : S2684354.Idx) : after ops V (Proc.devRef .tc main_call0_v13) i = BitVec.ofNat 32 (i 0).val := by
  after_reads_simp
  show BitVec.setWidth 32 (1#64 * BitVec.ofNat 64 (i 0).val) = _
  rw [BitVec.one_mul, BitVec.setWidth_ofNat_of_le (by decide)]

/-- The counter's high word is 0. -/
theorem counter_high (i : S2684354.Idx) : after ops V (Proc.devRef .tc main_call0_v14) i = 0#32 := by
  after_reads_simp
  show BitVec.setWidth 32 (IntOp.shrui .host (1#64 * BitVec.ofNat 64 (i 0).val) 32#64) = _
  have hi : (i 0).val < 2684354 := (i 0).isLt
  rw [BitVec.one_mul, show IntOp.shrui .host (BitVec.ofNat 64 (i 0).val) 32#64 = BitVec.ofNat 64 (i 0).val >>> 32#64 from
    if_pos (by decide)]
  refine BitVec.eq_of_toNat_eq ?_
  simp only [BitVec.toNat_setWidth, BitVec.ushiftRight_eq', BitVec.toNat_ushiftRight, BitVec.toNat_ofNat,
    Nat.shiftRight_eq_div_pow]
  rw [show 2 ^ (32 % 2 ^ 64) = 4294967296 from rfl, Nat.mod_eq_of_lt (a := (i 0).val) (by omega)]
  omega

/-- The two words the generator leaves at position `i`. -/
theorem words (i : S2684354.Idx) :
    ((after ops V (Proc.devRef .tc main_call0_v15_0) i, after ops V (Proc.devRef .tc main_call0_v15_1) i) : State)
      = cipher (BitVec.ofNat 32 (i 0).val) := by
  have h := (Left.start ops_ordered V).drop 29
  have k₀ := key_first V; have k₁ := key_second V; have c₀ := counter_high V i; have c₁ := counter_low V i
  generalize after ops V = W at *
  have x := h.binary; have h := h.tail; have c := h.nullary; have h := h.tail
  have y := h.binary; have h := h.tail; have b₀ := h.unary; have h := h.tail
  have s₀ := h.binary; have h := h.tail; have b₁ := h.unary; have h := h.tail
  have s₁ := h.binary; have h := h.tail
  have k₂ : ∀ z, entry W (.of main_call0_call0_v1 : TRef sig ⟨S_, .i32⟩) z = third := fun z => by
    rw [y, c, x]
    show IntOp.xori (IntOp.xori (W (Proc.devRef .tc main_call0_v5) z) (W (Proc.devRef .tc main_call0_v7) z)) _ = _
    rw [k₀ z, k₁ z]
    exact (by decide : (0#32 ^^^ 42#32) ^^^ 466688986#32 = third)
  have e : ((entry W (.of main_call0_call0_v3 : TRef sig ⟨S2684354, .i32⟩) i,
      entry W (.of main_call0_call0_v5 : TRef sig ⟨S2684354, .i32⟩) i) : State)
      = (0#32, BitVec.ofNat 32 (i 0).val + 42#32) := by
    rw [s₀, b₀, s₁, b₁]
    exact congrArg₂ Prod.mk (congrArg₂ (IntOp.addi (w := 32)) c₀ (k₀ _)) (congrArg₂ (IntOp.addi (w := 32)) c₁ (k₁ _))
  iterate 4 obtain ⟨h, e⟩ := round (by decide) (by decide) h e
  obtain ⟨h, e⟩ := keyed h k₁ k₂ e
  iterate 4 obtain ⟨h, e⟩ := round (by decide) (by decide) h e
  obtain ⟨h, e⟩ := keyed h k₂ k₀ e
  iterate 4 obtain ⟨h, e⟩ := round (by decide) (by decide) h e
  obtain ⟨h, e⟩ := keyed h k₀ k₁ e
  iterate 4 obtain ⟨h, e⟩ := round (by decide) (by decide) h e
  obtain ⟨h, e⟩ := keyed h k₁ k₂ e
  iterate 4 obtain ⟨h, e⟩ := round (by decide) (by decide) h e
  obtain ⟨h, e⟩ := keyed h k₂ k₀ e
  exact e

end Cert.Proof

end
-- ==== Proof.Draw.lean ====
/-
  The decision at one position, over the extended reals: the reference's uniform draw is its 23 bits over 2^23, and it
  is at least the drop rate exactly when those bits, as an integer, are at least 838861. And the scale: a product with
  the named reciprocal is the quotient by the rate of keeping.
-/
module

public import Idealize.ShloMosaic.Lib.Claim
public import Idealize.ShloMosaic.Lib.IdealHost

@[expose] public section

noncomputable section

namespace Cert.Proof

open Idealize.ShloMosaic

/-- The drop rate as the reference holds it. -/
theorem rate_dropped : Ideal.ofBits .f32 1036831949#32 = ((13421773 / 134217728 : ℝ) : EReal) := by
  simp [Ideal.ofBits, Ideal.ieee, -EReal.coe_mul]; norm_num

/-- The rate of keeping as the reference holds it. -/
theorem rate_kept : Ideal.ofBits .f32 1063675494#32 = ((7549747 / 8388608 : ℝ) : EReal) := by
  simp [Ideal.ofBits, Ideal.ieee, -EReal.coe_mul]; norm_num

/-- 23 bits under the exponent of one are one and that many 2^23-ths. -/
theorem under_one (m : BitVec 32) (hm : m.toNat < 8388608) :
    Ideal.ofBits .f32 (m ||| 1065353216#32) = ((1 + m.toNat / 8388608 : ℝ) : EReal) := by
  have hw : (m ||| 1065353216#32).toNat = 2 ^ 23 * 127 + m.toNat := by
    rw [BitVec.toNat_or, Nat.two_pow_add_eq_or_of_lt hm, Nat.or_comm]
    rfl
  have hs : (m ||| 1065353216#32).extractLsb' 31 1 = 0#1 := by
    refine BitVec.eq_of_toNat_eq ?_
    rw [BitVec.extractLsb'_toNat, hw, Nat.shiftRight_eq_div_pow, BitVec.toNat_ofNat]
    omega
  have he : (m ||| 1065353216#32).extractLsb' 23 8 = 127#8 := by
    refine BitVec.eq_of_toNat_eq ?_
    rw [BitVec.extractLsb'_toNat, hw, Nat.shiftRight_eq_div_pow, BitVec.toNat_ofNat]
    omega
  have hf : ((m ||| 1065353216#32).extractLsb' 0 23).toNat = m.toNat := by
    rw [BitVec.extractLsb'_toNat, hw, Nat.shiftRight_eq_div_pow]
    omega
  simp only [Ideal.ofBits, Ideal.ieee, hs, he, hf]
  rw [if_neg (by decide), if_neg (by decide)]
  congr 1
  simp
  norm_num
  ring

/-- The reference's comparison of its draw with the drop rate, as one of integers. -/
theorem decision (m : BitVec 32) (hm : m.toNat < 8388608) :
    Ideal.cmp .oge (max 0 ((Ideal.ofBits .f32 (m ||| 1065353216#32) - 1) * (1 - 0) + 0)) (Ideal.ofBits .f32 1036831949#32)
      = IntOp.cmpi .sge m 838861#32 := by
  have hd : max (0 : EReal) ((Ideal.ofBits .f32 (m ||| 1065353216#32) - 1) * (1 - 0) + 0) = ((m.toNat / 8388608 : ℝ) : EReal) := by
    rw [under_one m hm, show (1 : EReal) = ((1 : ℝ) : EReal) by norm_cast, show (0 : EReal) = ((0 : ℝ) : EReal) by norm_cast]
    rw [← EReal.coe_sub, ← EReal.coe_sub, ← EReal.coe_mul, ← EReal.coe_add]
    rw [show ((1 + m.toNat / 8388608 - 1) * (1 - 0) + 0 : ℝ) = m.toNat / 8388608 by ring]
    exact max_eq_right (EReal.coe_le_coe_iff.mpr (by positivity))
  rw [hd, rate_dropped]
  show BitVec.ofBool _ = BitVec.ofBool _
  congr 1
  rw [Bool.eq_iff_iff, decide_eq_true_iff, EReal.coe_le_coe_iff]
  have hi : (838861#32).sle m = true ↔ 838861 ≤ m.toNat := by
    rw [BitVec.sle_eq_decide, decide_eq_true_iff, BitVec.toInt_eq_toNat_of_lt (x := m) (by omega)]
    rw [show (838861#32 : BitVec 32).toInt = 838861 from rfl]
    omega
  refine Iff.trans ?_ hi.symm
  rw [div_le_div_iff₀ (by norm_num) (by norm_num)]
  constructor
  · intro h
    have h' : 13421773 * 8388608 ≤ m.toNat * 134217728 := by exact_mod_cast h
    omega
  · intro h
    have h' : 13421773 * 8388608 ≤ m.toNat * 134217728 := by omega
    exact_mod_cast h'

/-- The product with the reciprocal of the rate of keeping is the quotient by it. -/
theorem scaled (v : EReal) :
    v * ((8388608 / 7549747 : ℝ) : EReal) = Ideal.div v (Ideal.ofBits .f32 1063675494#32) := by
  rw [rate_kept, Ideal.div, if_neg (by simp), ← EReal.coe_inv]
  norm_num

end Cert.Proof

end
-- ==== Proof.ReferenceValue.lean ====
/-
  The reference's first result at a position: the value there over the rate of keeping where the position is kept, zero
  where it is not.
-/
module

public import proofs.«01_k».proof.Proof.ReferenceBits
public import proofs.«01_k».proof.Proof.Draw

@[expose] public section

set_option maxRecDepth 16384

noncomputable section

namespace Cert.Proof

open Idealize.ShloMosaic Idealize.ShloMosaic.StableHlo Idealize.SL.Sem Cert.ReferenceIdeal

theorem drawn_lt (p : BitVec 32) : (drawn p).toNat < 8388608 := by
  have := (bits p).isLt
  rw [drawn, BitVec.ushiftRight_eq', BitVec.toNat_ushiftRight, Nat.shiftRight_eq_div_pow, show (9#32).toNat = 9 from rfl]
  omega

/-- What is kept of the value `x` at position `p`, over the extended reals. -/
def keptAt (p : BitVec 32) (x : EReal) : EReal :=
  Scalar.select (IntOp.cmpi .sge (drawn p) 838861#32) (Ideal.div x (Ideal.ofBits .f32 1063675494#32)) 0

/-- The draw at a position: the maximum of the ends' arithmetic over the bits there. -/
theorem draw_at {S S₀ S₁ : Shape} {d : Fin S₀.rank → Fin S.rank} {d₁ : Fin S₁.rank → Fin S.rank} {h₀ : S₀.BroadcastsInDim S d}
    {h₁ : S₁.BroadcastsInDim S d₁} {x y : IVec S 32} {lo hi : FVec Ideal S₁ .f32} {i : S.Idx} {p : BitVec 32}
    (w : ((x i, y i) : State) = cipher p) (hlo : ∀ z, lo z = (0 : EReal)) (hhi : ∀ z, hi z = (1 : EReal)) :
    maximumf (broadcastInDim S d₁ h₁ lo)
      (addf (mulf (subf (bitcastToFloat .f32 (ori (Host.shrui (xori x y) (broadcastInDim S d h₀ (constantI S₀ 32 9#32)))
          (broadcastInDim S d h₀ (constantI S₀ 32 1065353216#32)))) (broadcastInDim S d h₀ (constant S₀ .f32 1065353216#32)))
        (broadcastInDim S d₁ h₁ (subf hi lo))) (broadcastInDim S d₁ h₁ lo)) i
      = max (0 : EReal) ((Ideal.ofBits .f32 (drawn p ||| 1065353216#32) - 1) * (1 - 0) + 0) := by
  have hx : x i = (cipher p).1 := congrArg Prod.fst w
  have hy : y i = (cipher p).2 := congrArg Prod.snd w
  simp only [maximumf, addf, mulf, subf, bitcastToFloat, ori, Host.shrui, xori, broadcastInDim, constantI, constant, hlo, hhi,
    IntOp.ori, IntOp.xori, hx, hy, host_shr _ 9#32 (by decide), Ideal.ofBits_def, Ideal.ofBits_one_f32, Ideal.maximumf_def,
    Ideal.addf_def, Ideal.mulf_def, Ideal.subf_def, drawn, bits]

/-- What the selection leaves at a position, from the draw there. -/
theorem kept_at {S S₀ : Shape} {d : Fin S₀.rank → Fin S.rank} {h₀ : S₀.BroadcastsInDim S d} {u v : FVec Ideal S .f32} {i : S.Idx}
    {p : BitVec 32} (hu : u i = max (0 : EReal) ((Ideal.ofBits .f32 (drawn p ||| 1065353216#32) - 1) * (1 - 0) + 0)) :
    select (cmpf .oge u (broadcastInDim S d h₀ (constant S₀ .f32 1036831949#32)))
      (Host.divf v (broadcastInDim S d h₀ (constant S₀ .f32 1063675494#32))) (broadcastInDim S d h₀ (constant S₀ .f32 0#32)) i
      = keptAt p (v i) := by
  have hc : cmpf .oge u (broadcastInDim S d h₀ (constant S₀ .f32 1036831949#32)) i = IntOp.cmpi .sge (drawn p) 838861#32 := by
    rw [← decision _ (drawn_lt p), ← hu]
    rfl
  simp only [select, hc, Host.divf, broadcastInDim, constant, keptAt, Ideal.hostDivf_def, Ideal.ofBits_def, Ideal.ofBits_zero_f32]

variable (V : Contents)

/-- The draw's lower end, 0. -/
theorem lower (z : S1.Idx) : after ops V (Proc.devRef .tc main_call0_v2) z = (0 : EReal) := by
  after_reads_simp
  exact Ideal.ofBits_zero_f32

/-- The draw's upper end, 1. -/
theorem upper (z : S1.Idx) : after ops V (Proc.devRef .tc main_call0_v3) z = (1 : EReal) := by
  after_reads_simp
  exact Ideal.ofBits_one_f32

theorem values_kept : after ops V (Proc.devRef .tc main_arg0) = V (Proc.devRef .tc main_arg0) :=
  ops_ordered.below V (by decide)

theorem indices_kept : after ops V (Proc.devRef .tc main_arg1) = V (Proc.devRef .tc main_arg1) :=
  ops_ordered.below V (by decide)

theorem reference_value (i : S2684354.Idx) :
    after ops V (Proc.devRef .tc main_v13) i = keptAt (BitVec.ofNat 32 (i 0).val) (V (Proc.devRef .tc main_arg0) i) := by
  have h := (Left.start ops_ordered V).drop 251
  have w := words V i; have lo := lower V; have hi := upper V
  rw [← values_kept V]
  generalize after ops V = W at *
  have e16 := h.binary; replace h := h.tail; have ec1 := h.nullary; replace h := h.tail
  have e17 := h.unary; replace h := h.tail; have e18 := h.binary; replace h := h.tail
  have ec2 := h.nullary; replace h := h.tail; have e19 := h.unary; replace h := h.tail
  have e20 := h.binary; replace h := h.tail; have e21 := h.unary; replace h := h.tail
  have ec := h.nullary; replace h := h.tail; have e22 := h.unary; replace h := h.tail
  have e23 := h.binary; replace h := h.tail; have e24 := h.binary; replace h := h.tail
  have e25 := h.unary; replace h := h.tail; have e26 := h.binary; replace h := h.tail
  have e27 := h.unary; replace h := h.tail; have e28 := h.binary; replace h := h.tail
  have e29 := h.unary; replace h := h.tail; have e7 := h.binary; replace h := h.tail
  have d3 := (h.head (y := main_cst_3) rfl).trans (nullary_result ..); replace h := h.tail
  have d8 := (h.head (y := main_v8) rfl).trans (unary_result ..); replace h := h.tail
  have d9 := (h.head (y := main_v9) rfl).trans (binary_result ..); replace h := h.tail
  have d4 := (h.head (y := main_cst_4) rfl).trans (nullary_result ..); replace h := h.tail
  have d10 := (h.head (y := main_v10) rfl).trans (unary_result ..); replace h := h.tail
  have d11 := (h.head (y := main_v11) rfl).trans (binary_result ..); replace h := h.tail
  have d5 := (h.head (y := main_cst_5) rfl).trans (nullary_result ..); replace h := h.tail
  have d12 := (h.head (y := main_v12) rfl).trans (unary_result ..); replace h := h.tail
  have d13 := congrFun h.ternary i
  clear h
  have u := congrFun e7 i
  rw [e29, e28, e27, e26, e25, e24, e23, e22, ec, e21, e20, e19, ec2, e18, e17, ec1, e16] at u
  have u := u.trans (draw_at w lo hi)
  clear e29 e28 e27 e26 e25 e24 e23 e22 ec e21 e20 e19 ec2 e18 e17 ec1 e16 e7
  have f9 : entry W (.of main_v9 : TRef sig ⟨S2684354, .i1⟩) = _ := d9
  have f11 : entry W (.of main_v11 : TRef sig ⟨S2684354, .f32⟩) = _ := d11
  have f12 : entry W (.of main_v12 : TRef sig ⟨S2684354, .f32⟩) = _ := d12
  rw [f9, f11, f12, d10, d8, d5, d4, d3] at d13
  exact d13.trans (kept_at (S := S2684354) (S₀ := S_) (u := W (Proc.devRef .tc main_v7)) (v := W (Proc.devRef .tc main_arg0)) u)

end Cert.Proof

end
-- ==== Proof.KernelBits.lean ====
/-
  The bits the kernel's body draws in its block: at every entry, the generator's two words combined. A round and an
  addition of key words are one lemma each; the body's rounds are that lemma repeated.
-/
module

public import proofs.«01_k».proof.Proof.Cipher
public import proofs.«01_k».proof.Proof.Gen.KernelIdeal.Frame

@[expose] public section

set_option maxRecDepth 16384

noncomputable section

namespace Cert.Proof

open Idealize.ShloMosaic Cert.KernelIdeal Cert.KernelIdeal.Gen

/-- A left shift by less than a word's width is the word's shift. -/
theorem lane_shl (x y : BitVec 32) (h : y.toNat < 32) : IntOp.shli .vector x y = x <<< y := if_pos h

/-- A right shift by less than a word's width is the word's shift. -/
theorem lane_shr (x y : BitVec 32) (h : y.toNat < 32) : IntOp.shrui .vector x y = x >>> y := if_pos h

section Steps

variable {S : Shape} {a b : IVec S 32} {y : S.Idx} {s : State}

/-- One round of the body, at an entry. -/
theorem body_round {l r : BitVec 32} (hl : l.toNat < 32) (hr : r.toNat < 32) (h : ((a y, b y) : State) = s) :
    ((addi a b y, xori (ori (shli b (broadcast S l)) (shrui b (broadcast S r))) (addi a b) y) : State) = mix l r s := by
  subst h
  simp only [mix, rot, xori, ori, addi, shli, shrui, broadcast, IntOp.xori, IntOp.ori, IntOp.addi, lane_shl _ _ hl,
    lane_shr _ _ hr]
  rw [BitVec.xor_comm]

/-- One addition of key words, at an entry. -/
theorem body_keyed {j k : BitVec 32} (h : ((a y, b y) : State) = s) :
    ((addi a (broadcast S j) y, addi b (broadcast S k) y) : State) = inject j k s := by
  subst h
  rfl

/-- The two words combined. -/
theorem body_bits {p : BitVec 32} (h : ((a y, b y) : State) = cipher p) : xori a b y = bits p := by
  rw [bits, ← h]
  rfl

end Steps

/-- The position in the whole array of the entry `y` of block `i`, as a word. -/
abbrev place (i : grid0.Coords) (y : S8x8192.Idx) : BitVec 32 :=
  BitVec.ofNat 32 ((i 0).val * 65536 + (y 0).val * 8192 + (y 1).val)

/-- The second word before the first round: the position plus the key's second word. -/
theorem body_start (i : grid0.Coords) (y : S8x8192.Idx) : k0_pay2 i y = place i y + 42#32 := by
  unfold k0_pay2
  simp only [addi, muli, broadcast, IntOp.addi, IntOp.muli, Scalar.muli, iota]
  simp only [List.foldl_cons, List.foldl_nil, Nat.zero_mul, Nat.zero_add, BitVec.ofNat_add, BitVec.ofNat_mul]

/-- The bits drawn in block `i`. -/
theorem body_draw (i : grid0.Coords) (x : Vec Ideal S8x8192 .f32) (y : S8x8192.Idx) :
    k0_pay37 (k0_pay35 (k0_pay40 i x) (k0_pay41 i x) (k0_pay42 i x)) (k0_pay36 (k0_pay40 i x) (k0_pay41 i x) (k0_pay42 i x)) 24#32 y
      = bits (place i y) := by
  unfold k0_pay40 k0_pay41 k0_pay42 k0_pay39 k0_pay38
  refine body_bits ?_
  refine body_keyed ?_
  iterate 4 refine body_round (by decide) (by decide) ?_
  refine body_keyed ?_
  iterate 4 refine body_round (by decide) (by decide) ?_
  refine body_keyed ?_
  iterate 4 refine body_round (by decide) (by decide) ?_
  refine body_keyed ?_
  iterate 4 refine body_round (by decide) (by decide) ?_
  refine body_keyed ?_
  iterate 4 refine body_round (by decide) (by decide) ?_
  exact congrArg (Prod.mk _) (body_start i y)

end Cert.Proof

end
-- ==== Proof.KernelValue.lean ====
/-
  The kernel's first result at a position. The body's block holds, at each entry, what is kept of the value there; the
  blocks tile the padded array in rows; cutting the padding off leaves the same function of the position.
-/
module

public import proofs.«01_k».proof.Proof.KernelBits
public import proofs.«01_k».proof.Proof.ReferenceValue
public import Idealize.ShloMosaic.Lib.Pipeline.ValueKit
public import Idealize.ShloMosaic.Lib.KernelVsHost

@[expose] public section

set_option maxRecDepth 16384

noncomputable section

namespace Cert.Proof

open Idealize.ShloMosaic Idealize.ShloMosaic.StableHlo Idealize.ShloMosaic.TcCoe Idealize.SL.Sem Cert.KernelIdeal Cert.KernelIdeal.Gen
open Idealize.ShloMosaic.Pipeline (Dat)

/-- The named constant is the reciprocal of the keep probability as stored. -/
theorem named_scale : Named.named (F := Ideal) (φ := .f32) Cert.KernelIdeal.κ "inv_keep_prob" 0x3F8E38E4#32 = ((8388608 / 7549747 : ℝ) : EReal) :=
  IdealRules.named_const.ideal_named_scalar _ _ _ _ rfl

/-- The body's result at an entry of its block. -/
theorem body_value (b : IVec S8x8192 32) (x : Vec Ideal S8x8192 .f32) (y : S8x8192.Idx) {p : BitVec 32}
    (hb : b y = bits p) : k0_pay1 (F := Ideal) b x y = keptAt p (x y) := by
  unfold k0_pay1
  simp only [select, cmpi, shrui, broadcast, mulf, hb, lane_shr _ 9#32 (by decide), shapeCast_self, named_scale, Ideal.mulf_def,
    scaled, keptAt, drawn]
  exact congrArg _ Ideal.ofBits_zero_f32

variable (m : (ℓ : Loc nD τ sig) → Buf (Elt Ideal) ℓ)

/-- The rows the kernel leaves. -/
abbrev rows (X : FVec Ideal S328x8192 .f32) : FVec Ideal S328x8192 .f32 := fun j =>
  keptAt (BitVec.ofNat 32 ((j 0).val * 8192 + (j 1).val)) (X j)

/-- Both windows move down one block of eight rows a step. -/
theorem block_rows : ∀ t : Fin cfg0.N, win0_0.index t = ![(grid0.coords t 0).val, 0] ∧ win0_1.index t = ![(grid0.coords t 0).val, 0] :=
  (by decide +kernel : ∀ t : Fin grid0.N, _)

theorem rows_left (c : Dev nD) : (dats m 0 c).arrAt 1 (cfgs 0).N = rows (V m c main_v1) := by
  refine (dats m 0 c).arrAt_eq_of_covers 1 _ (by decide +kernel) fun t _ y => ?_
  blk_simp
  rw [after0_1]
  frame_out
  rw [body_value _ _ _ (body_draw _ _ _)]
  refine congrArg₂ keptAt (congrArg (BitVec.ofNat 32) ?_) ?_
  · blk_simp [block_rows t]
    omega
  · blk_ext [iblk, V, block_rows t]

/-- The values with the padding behind them. -/
abbrev padding (X : FVec Ideal S2684354 .f32) : FVec Ideal S2686976 .f32 :=
  pad S2686976 ![0] ![2622] ![0] X (sitofp .f32 (constantI S_ 32 0#32) : FVec Ideal S_ .f32) pads_S2684354_S2686976_026220 h_S_

/-- The region finds the padded values, in rows. -/
theorem padded (c : Dev nD) :
    V m c main_v1 = shapeCast S328x8192 (padding (m ((c.tc : Thread nD τ).loc main_arg0))) shapeCasts_S2686976_S328x8192 := by
  show after ([hostOps0, hostOps0_1, hostOps0_2] : List (List (HloOp τ sig (Elt Ideal)))).flatten _ _ = _
  after_reads_simp
  rfl

/-- The kernel's first result, from its rows. -/
theorem result_of_rows (c : Dev nD) :
    Pipeline.afterTail₀ cfgs (dats m) 0 (V0 m) [hostOps1] c main_v4
    = extractStridedSlice S2684354 ![0] (shapeCast S2686976 (rows (V m c main_v1)) shapeCasts_S328x8192_S2686976)
        slices_S2686976_S2684354_0 := by
  rw [← rows_left]
  unfold Pipeline.afterTail₀
  rw [← Pipeline.withArrays_arr (cfgs 0).spec launch0.win.arr_inj c (V0 m c) (fun w => (dats m 0 c).arrAt w (cfgs 0).N) 1]
  after_reads_simp
  rfl

/-- The kernel's first result at a position. -/
theorem kernel_value (c : Dev nD) (i : S2684354.Idx) :
    Pipeline.afterTail₀ cfgs (dats m) 0 (V0 m) [hostOps1] c main_v4 i
    = keptAt (BitVec.ofNat 32 (i 0).val) (m ((c.tc : Thread nD τ).loc main_arg0) i) := by
  rw [result_of_rows, padded]
  have hi : (i 0).val < 2684354 := (i 0).isLt
  have hq : (i 0).val / 8192 < 328 := by omega
  have hr : (i 0).val % 8192 < 8192 := by omega
  have hs : (i 0).val / 8192 * 8192 + (i 0).val % 8192 = (i 0).val := by omega
  let at2 : S328x8192.Idx := ValueIdx.ix2 ⟨(i 0).val / 8192, hq⟩ ⟨(i 0).val % 8192, hr⟩
  let at1 : S2686976.Idx := ValueIdx.ix1 ⟨(i 0).val, by omega⟩
  have place : (S328x8192.rowMajor at2).val = (S2686976.rowMajor at1).val :=
    (Shape.rowMajor_val_two at2).trans (hs.trans (Shape.rowMajor_val_one at1).symm)
  have outer : extractStridedSlice S2684354 ![0]
      (shapeCast S2686976 (rows (shapeCast S328x8192 (padding (m ((c.tc : Thread nD τ).loc main_arg0)))
        shapeCasts_S2686976_S328x8192)) shapeCasts_S328x8192_S2686976) slices_S2686976_S2684354_0 i
      = shapeCast S2686976 (rows (shapeCast S328x8192 (padding (m ((c.tc : Thread nD τ).loc main_arg0)))
        shapeCasts_S2686976_S328x8192)) shapeCasts_S328x8192_S2686976 at1 := by
    unfold extractStridedSlice
    refine congrArg _ (funext fun a => Fin.ext ?_)
    fin_cases a
    exact Nat.zero_add _
  rw [outer, shapeCast_apply _ _ at1 at2 place]
  show keptAt (BitVec.ofNat 32 ((i 0).val / 8192 * 8192 + (i 0).val % 8192)) _ = _
  rw [hs, shapeCast_apply _ _ at2 at1 place.symm]
  refine congrArg _ (pad_apply_of_inside _ _ _ _ _ _ _ at1 i fun a => ?_)
  fin_cases a
  show (i 0).val = 0 + (i 0).val * (0 + 1)
  omega

/-- What a run of the kernel leaves in its first result. -/
theorem kernel_run (ρ : Dev nD → PrngReg) :
    θ_run defs (onTc main) ⟨m, fun _ => 0, ρ⟩ fun r => ∀ c : Dev nD,
      r.2.mem ((c.tc : Thread nD τ).loc main_v4)
        = fun i : S2684354.Idx => keptAt (BitVec.ofNat 32 (i 0).val) (m ((c.tc : Thread nD τ).loc main_arg0) i) := by
  run_from Gen.run_main m ρ
  exact funext (kernel_value m c)

end Cert.Proof

end
-- ==== Proof.lean ====
/-
  Sparse dropout in rows: the kernel's claims, assembled. The three programs end with their arguments as they were and
  every counter at zero; the named constant is what the kernel's multiplication idealizes to; and at the exact instance the
  kernel and the reference end with equal results, each entry being kept or dropped by the same drawn bits
  (Proof/Cipher.lean `bits`, Proof/ReferenceValue.lean `keptAt`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceValue
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.SL.Sem

/-- A run of the reference leaves its arguments, and its result is what is kept at each position. -/
theorem reference_left (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v13)
            = (fun i : Cert.ReferenceIdeal.S2684354.Idx => keptAt (BitVec.ofNat 32 (i 0).val)
                (m ((c.tc : Thread Cert.ReferenceIdeal.nD Cert.ReferenceIdeal.τ).loc Cert.ReferenceIdeal.main_arg0) i))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run _ _ _).mono (fun _ h c => ⟨(h c _).trans (funext fun i => reference_value _ i),
    (h c _).trans (values_kept _), (h c _).trans (indices_kept _)⟩) (reference_run m g)

/-- The reference ends with its arguments as they were and every counter at zero: it declares none. -/
theorem reference_quiescent : Cert.quiescent_ReferenceIdeal := fun m g _ =>
  (θ_run _ _ _).mono (fun r h => ⟨fun c => (h c).2, sem_eq_zero_of_no_sems (by decide) r.2⟩) (reference_left m g)

/-- The multiplier's word, and the reciprocal it is named for. -/
theorem preserves : Cert.preserves_Kernel_KernelIdeal :=
  IdealRules.named_const.statement Cert.KernelIdeal.κ "inv_keep_prob" .f32 0x3F8E38E4#32 ((8388608 / 7549747 : ℝ) : EReal) rfl

/-- Kernel and reference end with the same values and the same indices. -/
theorem algebraic : Cert.algebraic_KernelIdeal_ReferenceIdeal := by
  intro m g m' g' _ agree
  refine ⟨fun c => fun i : Cert.KernelIdeal.S2684354.Idx => keptAt (BitVec.ofNat 32 (i 0).val)
      (m ((c.tc : Thread Cert.KernelIdeal.nD Cert.KernelIdeal.τ).loc Cert.KernelIdeal.main_arg0) i),
    fun c => m ((c.tc : Thread Cert.KernelIdeal.nD Cert.KernelIdeal.τ).loc Cert.KernelIdeal.main_arg1), ?_, ?_⟩
  · exact (θ_run _ _ _).mono (fun _ h c => ⟨h.1 c, (h.2 c).2, h.2 c⟩)
      (θ_run_and (kernel_run m g) (Cert.KernelIdeal.Gen.unchanged m g))
  · refine (θ_run _ _ _).mono (fun _ h c => ⟨(h c).1.trans ?_, (h c).2.2.trans (agree c).2, (h c).2⟩) (reference_left m' g')
    exact funext fun i => congrArg (keptAt _) (congrFun (agree c).1 i)

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_quiescent, preserves, algebraic⟩

end Cert.Proof

end
